-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases [hPre_biases : Cert.Pre_biases.Facts] (m : (ℓ : Loc Cert.KernelIdeal.nD Cert.KernelIdeal.τ Cert.KernelIdeal.sig) → Buf (Elt Ideal) ℓ) : Prop :=
  ∀ c : Dev Cert.KernelIdeal.nD,
    (Cert.Pre_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases [hPre_biases : Cert.Pre_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_biases [hKernelIdeal : Cert.KernelIdeal.Facts] [hPre_biases : Cert.Pre_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_biases [hReferenceIdeal : Cert.ReferenceIdeal.Facts] [hPre_biases : Cert.Pre_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_biases [hKernelIdeal : Cert.KernelIdeal.Facts] [hReferenceIdeal : Cert.ReferenceIdeal.Facts] [hPre_biases : Cert.Pre_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_biases : Cert.Pre_biases.Facts),
    quiescent_Kernel (hKernel := hKernel)
    ∧ quiescent_KernelIdeal (hKernelIdeal := hKernelIdeal)
    ∧ quiescent_KernelIdeal_pre_biases (hKernelIdeal := hKernelIdeal) (hPre_biases := hPre_biases)
    ∧ quiescent_ReferenceIdeal (hReferenceIdeal := hReferenceIdeal)
    ∧ quiescent_ReferenceIdeal_pre_biases (hReferenceIdeal := hReferenceIdeal) (hPre_biases := hPre_biases)
    ∧ preserves_Kernel_KernelIdeal
    ∧ algebraic_KernelIdeal_ReferenceIdeal_pre_biases (hKernelIdeal := hKernelIdeal) (hReferenceIdeal := hReferenceIdeal) (hPre_biases := hPre_biases)
-- ==== Pre_biases.lean ====
abbrev S50000 : Shape := ⟨1, ![50000]⟩
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S50000 32) (main_arg1 : FVec F S50000x512 .f32) (main_arg2 : FVec F S512x512 .f32) (main_arg3 : FVec F S512 .f32) (main_arg4 : FVec F S1x512 .f32) (main_arg5 : FVec F S1 .f32) (main_arg6 : FVec F S512x512 .f32) (main_arg7 : FVec F S512 .f32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg3 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0xFF800000#32
  let main_v3 : FVec F S1 .f32 := broadcastInDim S1 ![] bcast_S_S1 main_cst_0
  let main_v4 : IVec S1 1 := cmpf .ogt main_arg5 main_v3
  let main_cst_1 : FVec F S_ .f32 := constant S_ .f32 0x7F800000#32
  let main_v5 : FVec F S1 .f32 := broadcastInDim S1 ![] bcast_S_S1 main_cst_1
  let main_v6 : IVec S1 1 := cmpf .olt main_arg5 main_v5
  let main_v7 : IVec S1 1 := andi main_v4 main_v6
  let main_c_2 : IVec S_ 1 := constantI S_ 1 1#1
  let main_v8 : IVec S_ 1 := (fun x v => Host.reduce IntOp.andi x v reducesTo_S1_S_d0 h_S_) main_v7 main_c_2
  let main_v9 : IVec S_ 1 := andi main_v2 main_v8
  main_v9
-- ==== Kernel.lean ====
abbrev S50000 : Shape := ⟨1, ![50000]⟩
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S10x1x5000 : Shape := ⟨3, ![10, 1, 5000]⟩
abbrev S64x512 : Shape := ⟨2, ![64, 512]⟩
abbrev S1x1x5000 : Shape := ⟨3, ![1, 1, 5000]⟩
abbrev S5000x512 : Shape := ⟨2, ![5000, 512]⟩
abbrev S1x64 : Shape := ⟨2, ![1, 64]⟩
abbrev S5000 : Shape := ⟨1, ![5000]⟩
abbrev S5000x1 : Shape := ⟨2, ![5000, 1]⟩
abbrev S1x5000 : Shape := ⟨2, ![1, 5000]⟩
abbrev S5000x64 : Shape := ⟨2, ![5000, 64]⟩
abbrev S64 : Shape := ⟨1, ![64]⟩
abbrev S64x1 : Shape := ⟨2, ![64, 1]⟩

abbrev nBuf : Space → Nat
  | .hbm => 12
  | .vmem => 14
  | .smem => 0
  | _ => 0

abbrev bufTy : (tb : Table) → Fin (tcTables nBuf tb) → BufTy
  | .hbm, ⟨0, _⟩ => ⟨S50000, .i32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S10x1x5000, .i32⟩
  | .hbm, ⟨9, _⟩ => ⟨S1x512, .f32⟩
  | .hbm, ⟨10, _⟩ => ⟨S50000x512, .f32⟩
  | .hbm, ⟨11, _⟩ => ⟨S64x512, .f32⟩
  | .local _ .vmem, ⟨0, _⟩ => ⟨S1x1x5000, .i32⟩
  | .local _ .vmem, ⟨1, _⟩ => ⟨S1x1x5000, .i32⟩
  | .local _ .vmem, ⟨2, _⟩ => ⟨S5000x512, .f32⟩
  | .local _ .vmem, ⟨3, _⟩ => ⟨S5000x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S5000x512, .f32⟩
  | .local _ .vmem, ⟨9, _⟩ => ⟨S5000x512, .f32⟩
  | .local _ .vmem, ⟨10, _⟩ => ⟨S64x512, .f32⟩
  | .local _ .vmem, ⟨11, _⟩ => ⟨S1x64, .f32⟩
  | .local _ .vmem, ⟨12, _⟩ => ⟨S1x64, .f32⟩
  | .local _ .vmem, ⟨13, _⟩ => ⟨S64x512, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v61 : BitVec 1 := Scalar.cmpi .eq arg0 c9_i32
  let v62 : BitVec 32 := Scalar.extui v61
  let c0_i32_31 : BitVec 32 := 0#32
  let v63 : BitVec 1 := Scalar.cmpi .ne v62 c0_i32_31
  v63

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S50000 : Shape := ⟨1, ![50000]⟩
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S512x1 : Shape := ⟨2, ![512, 1]⟩
abbrev S50000x1 : Shape := ⟨2, ![50000, 1]⟩
abbrev S1x1 : Shape := ⟨2, ![1, 1]⟩
abbrev S64 : Shape := ⟨1, ![64]⟩
abbrev S1x64 : Shape := ⟨2, ![1, 64]⟩
abbrev S50000x64 : Shape := ⟨2, ![50000, 64]⟩
abbrev S_ : Shape := ⟨0, ![]⟩
abbrev S64x1 : Shape := ⟨2, ![64, 1]⟩
abbrev S64x512 : Shape := ⟨2, ![64, 512]⟩

abbrev nBuf : Space → Nat
  | .hbm => 71
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S50000x512, .f32⟩
  | .hbm, ⟨10, _⟩ => ⟨S1x512, .f32⟩
  | .hbm, ⟨11, _⟩ => ⟨S50000x512, .f32⟩
  | .hbm, ⟨12, _⟩ => ⟨S50000x512, .f32⟩
  | .hbm, ⟨13, _⟩ => ⟨S512x1, .f32⟩
  | .hbm, ⟨14, _⟩ => ⟨S50000x1, .f32⟩
  | .hbm, ⟨15, _⟩ => ⟨S1x1, .f32⟩
  | .hbm, ⟨16, _⟩ => ⟨S50000x1, .f32⟩
  | .hbm, ⟨17, _⟩ => ⟨S50000x1, .f32⟩
  | .hbm, ⟨18, _⟩ => ⟨S50000x1, .i32⟩
  | .hbm, ⟨19, _⟩ => ⟨S64, .i32⟩
  | .hbm, ⟨20, _⟩ => ⟨S1x64, .i32⟩
  | .hbm, ⟨21, _⟩ => ⟨S50000x64, .i32⟩
  | .hbm, ⟨22, _⟩ => ⟨S50000x64, .i32⟩
  | .hbm, ⟨23, _⟩ => ⟨S50000x64, .i1⟩
  | .hbm, ⟨24, _⟩ => ⟨S_, .f32⟩
  | .hbm, ⟨25, _⟩ => ⟨S_, .f32⟩
  | .hbm, ⟨26, _⟩ => ⟨S50000x64, .f32⟩
  | .hbm, ⟨27, _⟩ => ⟨S50000x64, .f32⟩
  | .hbm, ⟨28, _⟩ => ⟨S50000x64, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S_, .i32⟩
  | .hbm, ⟨33, _⟩ => ⟨S50000, .i32⟩
  | .hbm, ⟨34, _⟩ => ⟨S50000, .i1⟩
  | .hbm, ⟨35, _⟩ => ⟨S_, .i32⟩
  | .hbm, ⟨36, _⟩ => ⟨S50000, .i32⟩
  | .hbm, ⟨37, _⟩ => ⟨S50000, .i32⟩
  | .hbm, ⟨38, _⟩ => ⟨S50000, .i32⟩
  | .hbm, ⟨39, _⟩ => ⟨S50000x1, .i32⟩
  | .hbm, ⟨40, _⟩ => ⟨S50000x1, .f32⟩
  | .hbm, ⟨41, _⟩ => ⟨S50000x1, .f32⟩
  | .hbm, ⟨42, _⟩ => ⟨S50000x1, .f32⟩
  | .hbm, ⟨43, _⟩ => ⟨S_, .f32⟩
  | .hbm, ⟨44, _⟩ => ⟨S64x1, .f32⟩
  | .hbm, ⟨45, _⟩ => ⟨S50000x1, .i32⟩
  | .hbm, ⟨46, _⟩ => ⟨S64x1, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x1, .f32⟩
  | .hbm, ⟨60, _⟩ => ⟨S50000x512, .f32⟩
  | .hbm, ⟨61, _⟩ => ⟨S50000x512, .f32⟩
  | .hbm, ⟨62, _⟩ => ⟨S_, .f32⟩
  | .hbm, ⟨63, _⟩ => ⟨S64x512, .f32⟩
  | .hbm, ⟨64, _⟩ => ⟨S50000x1, .i32⟩
  | .hbm, ⟨65, _⟩ => ⟨S64x512, .f32⟩
  | .hbm, ⟨66, _⟩ => ⟨S512x512, .f32⟩
  | .hbm, ⟨67, _⟩ => ⟨S64x512, .f32⟩
  | .hbm, ⟨68, _⟩ => ⟨S1x512, .f32⟩
  | .hbm, ⟨69, _⟩ => ⟨S64x512, .f32⟩
  | .hbm, ⟨70, _⟩ => ⟨S64x512, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit
public import Idealize.ShloMosaic.Lib.Pipeline.ReadBack

@[expose] public section

noncomputable section

namespace Cert.Pool

open Cert.KernelIdeal Cert.KernelIdeal.Gen Cert.KernelIdeal.Value
open Idealize.ShloMosaic Idealize.ShloMosaic.TcCoe Idealize.SL.Sem

variable {F : FTy → Type} [FloatOps F]

/-- The greatest scores after a block. -/
abbrev mNext (x0 : Vec F S1x1x5000 .i32) (x1 : Vec F S5000x512 .f32) (x3 : Vec F S1x512 .f32) (mo : Vec F S1x64 .f32) : Vec F S1x64 .f32 :=
  k0_pay2 (k0_pay13 x1 x3 x0 mo)

/-- The sums of the weights after a block. -/
abbrev sNext (x0 : Vec F S1x1x5000 .i32) (x1 : Vec F S5000x512 .f32) (x3 : Vec F S1x512 .f32) (mo so : Vec F S1x64 .f32) : Vec F S1x64 .f32 :=
  k0_pay3 (k0_pay12 x0) (k0_pay14 x1 x3 x0 mo) (k0_pay15 x1 x3) (k0_pay16 x1 x3 x0 mo) so

/-- The weighted feature sums after a block. -/
abbrev rNext (x0 : Vec F S1x1x5000 .i32) (x1 : Vec F S5000x512 .f32) (x3 : Vec F S1x512 .f32) (mo : Vec F S1x64 .f32) (ro : Vec F S64x512 .f32) :
    Vec F S64x512 .f32 :=
  k0_pay4 (k0_pay9 x1) (k0_pay12 x0) (k0_pay14 x1 x3 x0 mo) (k0_pay15 x1 x3) (k0_pay16 x1 x3 x0 mo) ro

section Cases

variable (m : (ℓ : Loc nD τ sig) → Buf (Elt F) ℓ)

/-- The first point starts the three scratch arrays from their initial values. -/
theorem step_first (c : Dev nD) (t : Fin cfg0.N)
    (acc : Vec F S5000x512 .f32 × Vec F S64x512 .f32 × Vec F S1x64 .f32 × Vec F S1x64 .f32 × Vec F S64x512 .f32)
    (h0 : t.val % 10 = 0) (h1 : ¬t.val % 10 = 9) :
    (stAt0 m c t.val t.isLt acc).1 = k0_pay10 (iblk m c 1 t) (iblk m c 2 t)
      ∧ (stAt0 m c t.val t.isLt acc).2.2
        = (mNext (iblk m c 0 t) (iblk m c 1 t) (iblk m c 3 t) k0_pay6,
          sNext (iblk m c 0 t) (iblk m c 1 t) (iblk m c 3 t) k0_pay6 k0_pay7,
          rNext (iblk m c 0 t) (iblk m c 1 t) (iblk m c 3 t) k0_pay6 k0_pay8) := by
  rw [stAt0_A m c t acc h0 h1]
  refine ⟨?_, ?_⟩
  · frame_out
  · frame_out

/-- A middle point moves the three scratch arrays on by one block. -/
theorem step_middle (c : Dev nD) (t : Fin cfg0.N)
    (acc : Vec F S5000x512 .f32 × Vec F S64x512 .f32 × Vec F S1x64 .f32 × Vec F S1x64 .f32 × Vec F S64x512 .f32)
    (h0 : ¬t.val % 10 = 0) (h1 : ¬t.val % 10 = 9) :
    (stAt0 m c t.val t.isLt acc).1 = k0_pay10 (iblk m c 1 t) (iblk m c 2 t)
      ∧ (stAt0 m c t.val t.isLt acc).2.2
        = (mNext (iblk m c 0 t) (iblk m c 1 t) (iblk m c 3 t) acc.2.2.1,
          sNext (iblk m c 0 t) (iblk m c 1 t) (iblk m c 3 t) acc.2.2.1 acc.2.2.2.1,
          rNext (iblk m c 0 t) (iblk m c 1 t) (iblk m c 3 t) acc.2.2.1 acc.2.2.2.2) := by
  rw [stAt0_B m c t acc h0 h1]
  refine ⟨?_, ?_⟩
  · frame_out
  · frame_out
    simp only [read_unread_whole]

/-- The last point moves them on by its block and then writes the second result from them. -/
theorem step_last (c : Dev nD) (t : Fin cfg0.N)
    (acc : Vec F S5000x512 .f32 × Vec F S64x512 .f32 × Vec F S1x64 .f32 × Vec F S1x64 .f32 × Vec F S64x512 .f32)
    (h0 : ¬t.val % 10 = 0) (h1 : t.val % 10 = 9) :
    (stAt0 m c t.val t.isLt acc).1 = k0_pay10 (iblk m c 1 t) (iblk m c 2 t)
      ∧ (stAt0 m c t.val t.isLt acc).2.1
        = k0_pay5 (rNext (iblk m c 0 t) (iblk m c 1 t) (iblk m c 3 t) acc.2.2.1 acc.2.2.2.2)
            (sNext (iblk m c 0 t) (iblk m c 1 t) (iblk m c 3 t) acc.2.2.1 acc.2.2.2.1) (iblk m c 4 t) (iblk m c 5 t) := by
  rw [stAt0_C m c t acc h0 h1]
  refine ⟨?_, ?_⟩
  · frame_out
  · frame_out
    simp only [read_unread_whole]

end Cases

end Cert.Pool
end
-- ==== Proof.Math.lean ====
/- The mathematics of a softmax taken a block of rows at a time, in the extended reals, with no program in sight.
   A set of rows carries a score `g`, a membership `p` and a feature `f`. `top` is the greatest score of the members,
   `den` the sum of the members' exponentials relative to it, `num` the same sum weighted by the feature. Adding a block
   of rows rescales the old sums by `alpha` and adds the block's own terms: `top_union`, `den_union`, `num_union`.
   The infinities are covered: no score and no feature is assumed finite. -/
module

public import Idealize.ShloMosaic.Lib.ValueIdx

@[expose] public section

noncomputable section

namespace Cert.Pool

open Idealize.ShloMosaic

/-- The exponential is never negative. -/
theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- The exponential of a number that is not positive is at most one. -/
theorem exp_le_one {x : EReal} (h : x ≤ 0) : Ideal.exp x ≤ 1 := by
  induction x with
  | bot => rw [Ideal.exp_bot]; exact zero_le_one
  | top => exact absurd h (by simp)
  | coe r =>
    rw [Ideal.exp_coe]
    have h' : r ≤ 0 := by exact_mod_cast h
    exact_mod_cast Real.exp_le_one_iff.2 h'

/-- The factor that moves a sum of exponentials relative to `mo` to one relative to `mn`: nothing to move where `mo` is
    minus infinity. -/
def alpha (mo mn : EReal) : EReal := if mo = ⊥ then 0 else Ideal.exp (mo - mn)

/-- The rescaling factor is not negative. -/
theorem alpha_nonneg (mo mn : EReal) : 0 ≤ alpha mo mn := by
  unfold alpha; split
  · exact le_rfl
  · exact exp_nonneg _

/-- The rescaling factor is at most one when the maximum has not fallen. -/
theorem alpha_le_one {mo mn : EReal} (h : mo ≤ mn) : alpha mo mn ≤ 1 := by
  unfold alpha; split
  · exact zero_le_one
  · exact exp_le_one (EReal.sub_nonpos.2 h)

/-- The rescaling factor is not infinite when the maximum has not fallen. -/
theorem alpha_ne_top {mo mn : EReal} (h : mo ≤ mn) : alpha mo mn ≠ ⊤ := by
  intro e
  have h1 := alpha_le_one h
  rw [e] at h1
  exact absurd (top_le_iff.1 h1) (EReal.coe_ne_top 1)

/-- Moving one exponential: for a score at most `mo`, and `mo` at most `mn`, at the infinities too. -/
theorem exp_mul_alpha {x mo mn : EReal} (h : x ≤ mo) (h' : mo ≤ mn) :
    Ideal.exp (x - mo) * alpha mo mn = Ideal.exp (x - mn) := by
  unfold alpha
  induction mo with
  | bot =>
    obtain rfl : x = ⊥ := le_bot_iff.1 h
    rw [if_pos rfl, mul_zero, sub_eq_add_neg, EReal.bot_add, Ideal.exp_bot]
  | top =>
    obtain rfl : mn = ⊤ := top_le_iff.1 h'
    have e : (⊤ : EReal) - ⊤ = ⊥ := rfl
    rw [if_neg (by simp), e, Ideal.exp_bot, mul_zero, sub_eq_add_neg, EReal.neg_top, EReal.add_bot, Ideal.exp_bot]
  | coe b =>
    rw [if_neg (EReal.coe_ne_bot b)]
    induction mn with
    | bot => exact absurd (le_bot_iff.1 h') (EReal.coe_ne_bot b)
    | top =>
      simp only [sub_eq_add_neg, EReal.neg_top, EReal.add_bot, Ideal.exp_bot, mul_zero]
    | coe c =>
      induction x with
      | bot => simp only [sub_eq_add_neg, EReal.bot_add, Ideal.exp_bot, zero_mul]
      | top => exact absurd (top_le_iff.1 h) (EReal.coe_ne_top b)
      | coe a =>
        rw [← EReal.coe_sub, ← EReal.coe_sub, ← EReal.coe_sub, Ideal.exp_coe, Ideal.exp_coe, Ideal.exp_coe,
          ← EReal.coe_mul, ← Real.exp_add]
        congr 2
        ring

/-- A factor that is not negative and not infinite goes into a finite sum, whatever the terms are. -/
theorem sum_mul_of_nonneg {ι : Type*} (R : Finset ι) (h : ι → EReal) {a : EReal} (ha : 0 ≤ a) (ha' : a ≠ ⊤) :
    (∑ r ∈ R, h r) * a = ∑ r ∈ R, h r * a := by
  classical
  induction R using Finset.induction_on with
  | empty => simp
  | insert r R hr ih =>
    rw [Finset.sum_insert hr, Finset.sum_insert hr, ← ih]
    exact EReal.right_distrib_of_nonneg_of_ne_top ha ha' _ _

section Rows

variable {ι : Type*} [DecidableEq ι] (g f : ι → EReal) (p : ι → Prop) [DecidablePred p]

/-- The greatest score of the members among the rows `R`; minus infinity where there is none. -/
def top (R : Finset ι) : EReal := R.sup fun r => if p r then g r else ⊥

/-- A row's weight relative to the score `M`: nothing for a row that is no member. -/
def weight (M : EReal) (r : ι) : EReal := if p r then Ideal.exp (g r - M) else 0

/-- The sum of the weights of the rows `R`, relative to their greatest score. -/
def den (R : Finset ι) : EReal := ∑ r ∈ R, weight g p (top g p R) r

/-- The sum of the weighted features of the rows `R`. -/
def num (R : Finset ι) : EReal := ∑ r ∈ R, weight g p (top g p R) r * f r

/-- The largest score over no rows is minus infinity. -/
theorem top_empty : top g p ∅ = ⊥ := rfl
/-- The sum of weights over no rows is zero. -/
theorem den_empty : den g p ∅ = 0 := rfl
/-- The weighted sum over no rows is zero. -/
theorem num_empty : num g f p ∅ = 0 := rfl

/-- A row's score is at most the largest. -/
theorem le_top_of_mem {R : Finset ι} {r : ι} (hr : r ∈ R) (hp : p r) : g r ≤ top g p R := by
  have h := Finset.le_sup (f := fun r => if p r then g r else ⊥) hr
  rwa [if_pos hp] at h

/-- A weight is not negative. -/
theorem weight_nonneg (M : EReal) (r : ι) : 0 ≤ weight g p M r := by
  unfold weight; split
  · exact exp_nonneg _
  · exact le_rfl

/-- A weight against the largest score is at most one. -/
theorem weight_le_one {R : Finset ι} {r : ι} (hr : r ∈ R) : weight g p (top g p R) r ≤ 1 := by
  unfold weight; split
  · next hp => exact exp_le_one (EReal.sub_nonpos.2 (le_top_of_mem g p hr hp))
  · exact zero_le_one

/-- Moving one row's weight from one reference score to a greater one. -/
theorem weight_mul_alpha {R : Finset ι} {mn : EReal} (h : top g p R ≤ mn) {r : ι} (hr : r ∈ R) :
    weight g p (top g p R) r * alpha (top g p R) mn = weight g p mn r := by
  unfold weight; split
  · next hp => exact exp_mul_alpha (le_top_of_mem g p hr hp) h
  · exact zero_mul _

/-- The largest score over a union is the larger of the two. -/
theorem top_union (R B : Finset ι) : top g p (R ∪ B) = max (top g p R) (top g p B) := Finset.sup_union

/-- The largest score does not fall when rows are added. -/
theorem top_le_union (R B : Finset ι) : top g p R ≤ top g p (R ∪ B) := by
  rw [top_union]; exact le_max_left _ _

/-- Adding a block of rows to the sum of the weights. -/
theorem den_union {R B : Finset ι} (hd : Disjoint R B) :
    den g p (R ∪ B) = den g p R * alpha (top g p R) (top g p (R ∪ B)) + ∑ r ∈ B, weight g p (top g p (R ∪ B)) r := by
  have hle := top_le_union g p R B
  rw [den, Finset.sum_union hd, den, sum_mul_of_nonneg R _ (alpha_nonneg _ _) (alpha_ne_top hle)]
  congr 1
  exact Finset.sum_congr rfl fun r hr => (weight_mul_alpha g p hle hr).symm

/-- Adding a block of rows to the sum of the weighted features. -/
theorem num_union {R B : Finset ι} (hd : Disjoint R B) :
    num g f p (R ∪ B) = num g f p R * alpha (top g p R) (top g p (R ∪ B))
      + ∑ r ∈ B, weight g p (top g p (R ∪ B)) r * f r := by
  have hle := top_le_union g p R B
  rw [num, Finset.sum_union hd, num, sum_mul_of_nonneg R _ (alpha_nonneg _ _) (alpha_ne_top hle)]
  congr 1
  refine Finset.sum_congr rfl fun r hr => ?_
  rw [mul_right_comm, weight_mul_alpha g p hle hr]

/-- A sum of weights is not negative. -/
theorem den_nonneg (R : Finset ι) : 0 ≤ den g p R := Finset.sum_nonneg fun r _ => weight_nonneg g p _ r

/-- The sum of the weights is a real number that is not negative. -/
theorem den_eq_coe (R : Finset ι) : ∃ d : ℝ, 0 ≤ d ∧ den g p R = (d : EReal) := by
  have h0 := den_nonneg g p R
  have h1 : den g p R ≤ ((R.card : ℝ) : EReal) := by
    unfold den
    calc ∑ r ∈ R, weight g p (top g p R) r ≤ ∑ _r ∈ R, (1 : EReal) :=
          Finset.sum_le_sum fun r hr => weight_le_one g p hr
      _ = ((R.card : ℝ) : EReal) := by
          rw [Finset.sum_const, EReal.nsmul_eq_mul, mul_one]; rfl
  generalize den g p R = D at h0 h1
  induction D with
  | bot => exact absurd h0 (by simp)
  | top => exact absurd (top_le_iff.1 h1) (EReal.coe_ne_top _)
  | coe d => exact ⟨d, by exact_mod_cast h0, rfl⟩

/-- Dividing the weights before the sum, or the sum after: the same, the divisor being a positive real. -/
theorem num_div (R : Finset ι) {e : ℝ} (he : 0 < e) :
    Ideal.div (num g f p R) (den g p R + (e : EReal))
      = ∑ r ∈ R, f r * Ideal.div (weight g p (top g p R) r) (den g p R + (e : EReal)) := by
  obtain ⟨d, hd, hD⟩ := den_eq_coe g p R
  have hpos : 0 < d + e := by linarith
  rw [hD, ← EReal.coe_add, Ideal.div_coe hpos.ne', num,
    sum_mul_of_nonneg R _ (by exact_mod_cast (one_div_pos.2 hpos).le) (EReal.coe_ne_top _)]
  refine Finset.sum_congr rfl fun r _ => ?_
  rw [Ideal.div_coe hpos.ne', ← mul_assoc, mul_comm (f r)]

/-- Shifting every score by a real shifts the greatest score by it. -/
theorem top_shift (R : Finset ι) (b : ℝ) : top (fun r => g r + (b : EReal)) p R = top g p R + (b : EReal) := by
  have hm : Monotone fun x : EReal => x + (b : EReal) := fun x y h => add_le_add_left h _
  unfold top
  rw [Finset.comp_sup_eq_sup_comp (fun x : EReal => x + (b : EReal)) (fun x y => hm.map_sup x y) (EReal.bot_add _)]
  refine Finset.sup_congr rfl fun r _ => ?_
  dsimp only [Function.comp]
  split
  · rfl
  · rw [EReal.bot_add]

/-- A shift by a real cancels in a difference, at the infinities too. -/
theorem shift_sub (x y : EReal) (b : ℝ) : (x + (b : EReal)) - (y + (b : EReal)) = x - y := by
  induction x with
  | bot => simp only [EReal.bot_add, sub_eq_add_neg]
  | top =>
    induction y with
    | bot => rfl
    | top => rfl
    | coe y => rfl
  | coe x =>
    induction y with
    | bot => rfl
    | top => rfl
    | coe y => rw [← EReal.coe_add, ← EReal.coe_add, ← EReal.coe_sub, ← EReal.coe_sub]; congr 1; ring

/-- The weights do not see a shift of every score by a real. -/
theorem weight_shift (R : Finset ι) (b : ℝ) (r : ι) :
    weight (fun r => g r + (b : EReal)) p (top (fun r => g r + (b : EReal)) p R) r = weight g p (top g p R) r := by
  unfold weight
  rw [top_shift]
  simp only [shift_sub]

end Rows

end Cert.Pool

end
-- ==== Proof.Spec.lean ====
module

public import proofs.«01_k».proof.Proof.Math
public import Idealize.ShloMosaic.Lib.Pointwise
public import Idealize.ShloMosaic.Lib.WordCmp

/-! The weighted mean of the rows of each segment, and the constants that both programs use. -/

@[expose] public section

noncomputable section

namespace Cert.Pool

open Idealize.ShloMosaic

/-- The score of a row: its product with the gate's weights. -/
def score (feats : Fin 50000 → Fin 512 → EReal) (gate : Fin 512 → EReal) (r : Fin 50000) : EReal :=
  ∑ k : Fin 512, feats r k * gate k

/-- Row `r` is a row of segment `j`. -/
def inSeg (seg : Fin 50000 → BitVec 32) (j : Fin 64) (r : Fin 50000) : Prop := seg r = BitVec.ofNat 32 j.val

/-- Membership of a segment is decided by comparing words. -/
instance (seg : Fin 50000 → BitVec 32) (j : Fin 64) : DecidablePred (inSeg seg j) :=
  fun r => inferInstanceAs (Decidable (_ = _))

/-- The second result: the weighted mean of each segment's rows through the pooling weights. -/
def pooled (seg : Fin 50000 → BitVec 32) (feats : Fin 50000 → Fin 512 → EReal) (gate : Fin 512 → EReal)
    (w : Fin 512 → Fin 512 → EReal) (b : Fin 512 → EReal) (e : EReal) (j : Fin 64) (d : Fin 512) : EReal :=
  ∑ k : Fin 512,
      Ideal.div (num (score feats gate) (fun r => feats r k) (inSeg seg j) Finset.univ)
        (den (score feats gate) (inSeg seg j) Finset.univ + e) * w d k
    + b d

/-- The pattern the kernel fills its running maximum with is minus infinity. -/
theorem negInf : Ideal.ofBits .f32 0xFF800000#32 = (⊥ : EReal) := by
  simp [Ideal.ofBits, Ideal.ieee]

/-- The scalar added to a sum of weights before dividing, `1e-12` in `f32`. -/
def eps : ℝ := 9223372 / 9223372036854775808

/-- That scalar is positive. -/
theorem eps_pos : 0 < eps := by norm_num [eps]

/-- The pattern both programs hold is that scalar. -/
theorem eps_bits : Ideal.ofBits .f32 0x2B8CBCCC#32 = ((eps : ℝ) : EReal) := by
  simp only [eps, div_eq_mul_inv, EReal.coe_mul]
  simp [Ideal.ofBits, Ideal.ieee]
  norm_num

/-- A choice by a comparison for equality is a choice by the equality. -/
theorem select_eq {α : Type} (x y : BitVec 32) (a b : α) :
    Scalar.select (IntOp.cmpi .eq x y) a b = if x = y then a else b := by
  rw [WordCmp.cmpi_eq_eq]
  by_cases h : x = y <;> simp [h, Scalar.select]

end Cert.Pool
end
-- ==== Proof.Payload.lean ====
module

public import proofs.«01_k».proof.Proof.Body
public import proofs.«01_k».proof.Proof.Spec
public import Idealize.ShloMosaic.Lib.Pointwise

/-! What one grid point computes from its blocks, entry by entry, on the extended reals. -/

@[expose] public section

noncomputable section

namespace Cert.Pool

open Cert.KernelIdeal Cert.KernelIdeal.Gen
open Idealize.ShloMosaic Idealize.ShloMosaic.TcCoe

section Block

variable (x0 : Vec Ideal S1x1x5000 .i32) (x1 : Vec Ideal S5000x512 .f32) (x3 : Vec Ideal S1x512 .f32)

/-- The score of row `l` of a block. -/
def gB (l : Fin 5000) : EReal := ∑ k : Fin 512, x1 (ix2 l k) * x3 (ix2 0 k)

/-- Row `l` of a block is a row of segment `j`. -/
def pB (j : Fin 64) (l : Fin 5000) : Prop := x0 (ix3 0 0 l) = BitVec.ofNat 32 j.val

/-- Membership of a segment is decided by comparing words. -/
instance (j : Fin 64) : DecidablePred (pB x0 j) := fun l => inferInstanceAs (Decidable (_ = _))

/-- The block of the first result is the block of rows times the transposed weights. -/
theorem classes_apply (x2 : Vec Ideal S512x512 .f32) (l : Fin 5000) (d : Fin 512) :
    k0_pay10 x1 x2 (ix2 l d) = ∑ k : Fin 512, x1 (ix2 l k) * x2 (ix2 d k) := by
  unfold k0_pay10 k0_pay9
  pointwise

/-- The new greatest score is the greater of the old one and the block's own. -/
theorem mNext_apply (mo : Vec Ideal S1x64 .f32) (i : Fin 1) (j : Fin 64) :
    mNext x0 x1 x3 mo (ix2 i j) = max (mo (ix2 i j)) (top (gB x1 x3) (pB x0 j) Finset.univ) := by
  unfold mNext k0_pay2 k0_pay13 k0_pay12 k0_pay11
  pointwise
  simp only [select_eq, negInf]
  rfl

/-- The running maximum's store, read at an entry. -/
theorem pay13_apply (mo : Vec Ideal S1x64 .f32) (i : Fin 1) (j : Fin 64) :
    k0_pay13 x1 x3 x0 mo (ix2 i j) = max (mo (ix2 i j)) (top (gB x1 x3) (pB x0 j) Finset.univ) := by
  rw [← mNext_apply]
  unfold mNext k0_pay2
  pointwise

/-- The factor the old sums are scaled by. -/
theorem alpha_apply (mo : Vec Ideal S1x64 .f32) (i : Fin 1) (j : Fin 64) :
    k0_pay14 x1 x3 x0 mo (ix2 i j)
      = alpha (mo (ix2 i j)) (max (mo (ix2 i j)) (top (gB x1 x3) (pB x0 j) Finset.univ)) := by
  unfold k0_pay14
  pointwise
  rw [pay13_apply, negInf]
  rfl

/-- The weight of a row in a segment. -/
theorem weight_apply (mo : Vec Ideal S1x64 .f32) (l : Fin 5000) (j : Fin 64) :
    k0_pay1 (k0_pay12 x0) (k0_pay15 x1 x3) (k0_pay16 x1 x3 x0 mo) (ix2 l j)
      = weight (gB x1 x3) (pB x0 j) (max (mo (ix2 0 j)) (top (gB x1 x3) (pB x0 j) Finset.univ)) l := by
  unfold k0_pay1 k0_pay12 k0_pay15 k0_pay16 k0_pay11
  pointwise
  rw [pay13_apply, negInf, select_eq]
  unfold weight
  by_cases h : x0 (ix3 0 0 l) = BitVec.ofNat 32 j.val
  · rw [if_pos h, if_pos (show pB x0 j l from h)]; rfl
  · rw [if_neg h, if_neg (show ¬pB x0 j l from h), Ideal.exp_bot]

/-- The new sum of weights. -/
theorem sNext_apply (mo so : Vec Ideal S1x64 .f32) (i : Fin 1) (j : Fin 64) :
    sNext x0 x1 x3 mo so (ix2 i j)
      = so (ix2 i j) * alpha (mo (ix2 i j)) (max (mo (ix2 i j)) (top (gB x1 x3) (pB x0 j) Finset.univ))
        + ∑ l : Fin 5000, weight (gB x1 x3) (pB x0 j) (max (mo (ix2 0 j)) (top (gB x1 x3) (pB x0 j) Finset.univ)) l := by
  unfold sNext k0_pay3
  pointwise
  simp only [weight_apply, alpha_apply]

/-- The new weighted sum of the rows. -/
theorem rNext_apply (mo : Vec Ideal S1x64 .f32) (ro : Vec Ideal S64x512 .f32) (j : Fin 64) (d : Fin 512) :
    rNext x0 x1 x3 mo ro (ix2 j d)
      = ro (ix2 j d) * alpha (mo (ix2 0 j)) (max (mo (ix2 0 j)) (top (gB x1 x3) (pB x0 j) Finset.univ))
        + ∑ l : Fin 5000, weight (gB x1 x3) (pB x0 j) (max (mo (ix2 0 j)) (top (gB x1 x3) (pB x0 j) Finset.univ)) l
            * x1 (ix2 l d) := by
  unfold rNext k0_pay4 k0_pay9
  pointwise
  simp only [weight_apply, alpha_apply]

end Block

/-- The second result from the final sums: divide, multiply by the transposed weights, add the bias. -/
theorem pred_apply (r : Vec Ideal S64x512 .f32) (s : Vec Ideal S1x64 .f32) (w : Vec Ideal S512x512 .f32)
    (b : Vec Ideal S1x512 .f32) (j : Fin 64) (d : Fin 512) :
    k0_pay5 r s w b (ix2 j d)
      = ∑ k : Fin 512, Ideal.div (r (ix2 j k)) (s (ix2 0 j) + ((eps : ℝ) : EReal)) * w (ix2 d k) + b (ix2 0 d) := by
  unfold k0_pay5
  pointwise
  rw [eps_bits]

/-- The running maximum starts at minus infinity, the two sums at zero. -/
theorem start_apply (i : Fin 1) (j : Fin 64) (d : Fin 512) :
    k0_pay6 (F := Ideal) (ix2 i j) = (⊥ : EReal) ∧ k0_pay7 (F := Ideal) (ix2 i j) = (0 : EReal)
      ∧ k0_pay8 (F := Ideal) (ix2 j d) = (0 : EReal) := by
  refine ⟨?_, ?_, ?_⟩
  · unfold k0_pay6; pointwise; exact negInf
  · unfold k0_pay7; pointwise
  · unfold k0_pay8; pointwise

end Cert.Pool
end
-- ==== Proof.Blocks.lean ====
module

public import proofs.«01_k».proof.Proof.Payload
public import Idealize.ShloMosaic.Lib.Claim
public import Idealize.ShloMosaic.Lib.StableHlo.ReadAt

/-! Which entries of the arguments the blocks of a grid point hold. -/

@[expose] public section

noncomputable section

namespace Cert.Pool

open Cert.KernelIdeal Cert.KernelIdeal.Gen Cert.KernelIdeal.Value
open Idealize.ShloMosaic Idealize.ShloMosaic.TcCoe

variable (m : (ℓ : Loc nD τ sig) → Buf (Elt Ideal) ℓ) (c : Dev nD)

/-- The block each window takes at a grid point. -/
theorem idx : ∀ t : Fin cfg0.N, win0_0.index t = ![t.val, 0, 0] ∧ win0_1.index t = ![t.val, 0] ∧ win0_2.index t = ![0, 0]
    ∧ win0_3.index t = ![0, 0] ∧ win0_4.index t = ![0, 0] ∧ win0_5.index t = ![0, 0] := by decide +kernel

/-- Row `l` of block `t`, as a row of the whole array. -/
def row (t : Fin cfg0.N) (l : Fin 5000) : Fin 50000 :=
  ⟨t.val * 5000 + l.val, by have := t.isLt.trans_eq N_0; omega⟩

/-- The blocks of the eight arguments, entry by entry. -/
theorem blk1 (t : Fin cfg0.N) (l : Fin 5000) (d : Fin 512) :
    iblk m c 1 t (ix2 l d) = m ((c : Thread nD τ).loc main_arg1) (ix2 (row t l) d) := by
  unfold iblk
  entry_read
  blk_ext [idx t, row]

/-- Block `t` of the segment numbers, read at an entry. -/
theorem blk0 (t : Fin cfg0.N) (l : Fin 5000) :
    iblk m c 0 t (ix3 0 0 l) = m ((c : Thread nD τ).loc main_arg0) (ix1 (row t l)) := by
  unfold iblk
  entry_read
  have e : ((cfg0.win 0).blk t).view.emb (ix3 0 0 l) = ix3 (⟨t.val, t.isLt.trans_eq N_0⟩ : Fin 10) (0 : Fin 1) l := by
    blk_ext [idx t]
  rw [View.read, e]
  pointwise
  rfl

/-- The classifier's weights, the same at every grid point. -/
theorem blk2 (t : Fin cfg0.N) (l : Fin 512) (d : Fin 512) :
    iblk m c 2 t (ix2 l d) = m ((c : Thread nD τ).loc main_arg2) (ix2 l d) := by
  unfold iblk
  entry_read
  blk_ext [idx t]

/-- The gate's weights, the same at every grid point. -/
theorem blk3 (t : Fin cfg0.N) (d : Fin 512) :
    iblk m c 3 t (ix2 0 d) = m ((c : Thread nD τ).loc main_arg4) (ix2 0 d) := by
  unfold iblk
  entry_read
  blk_ext [idx t]

/-- The pooling weights, the same at every grid point. -/
theorem blk4 (t : Fin cfg0.N) (l : Fin 512) (d : Fin 512) :
    iblk m c 4 t (ix2 l d) = m ((c : Thread nD τ).loc main_arg6) (ix2 l d) := by
  unfold iblk
  entry_read
  blk_ext [idx t]

/-- The pooling bias, the same at every grid point. -/
theorem blk5 (t : Fin cfg0.N) (d : Fin 512) :
    iblk m c 5 t (ix2 0 d) = m ((c : Thread nD τ).loc main_arg7) (ix1 d) := by
  unfold iblk
  entry_read
  have e : ((cfg0.win 5).blk t).view.emb (ix2 0 d) = ix2 (0 : Fin 1) d := by
    blk_ext [idx t]
  rw [View.read, e]
  pointwise
  rfl
end Cert.Pool
end
-- ==== Proof.Fold.lean ====
module

public import proofs.«01_k».proof.Proof.Blocks
public import proofs.«01_k».proof.Proof.Spec

/-! What the kernel's arrays hold after each grid point, and so what its two results are. -/

@[expose] public section

noncomputable section

namespace Cert.Pool

open Cert.KernelIdeal Cert.KernelIdeal.Gen Cert.KernelIdeal.Value
open Idealize.ShloMosaic Idealize.ShloMosaic.TcCoe

variable (m : (ℓ : Loc nD τ sig) → Buf (Elt Ideal) ℓ) (c : Dev nD)

/-- The segment number of a row. -/
abbrev segA : Fin 50000 → BitVec 32 := fun r => m ((c : Thread nD τ).loc main_arg0) (ix1 r)
/-- The features. -/
abbrev featsA : Fin 50000 → Fin 512 → EReal := fun r k => m ((c : Thread nD τ).loc main_arg1) (ix2 r k)
/-- The classifier's weights. -/
abbrev fcA : Fin 512 → Fin 512 → EReal := fun d k => m ((c : Thread nD τ).loc main_arg2) (ix2 d k)
/-- The gate's weights. -/
abbrev gateA : Fin 512 → EReal := fun k => m ((c : Thread nD τ).loc main_arg4) (ix2 0 k)
/-- The pooling weights. -/
abbrev poolA : Fin 512 → Fin 512 → EReal := fun d k => m ((c : Thread nD τ).loc main_arg6) (ix2 d k)
/-- The pooling bias. -/
abbrev biasA : Fin 512 → EReal := fun d => m ((c : Thread nD τ).loc main_arg7) (ix1 d)

/-- Two rows of a block are two rows of the array. -/
theorem row_injective (t : Fin cfg0.N) : Function.Injective (row t) := by
  intro a b h
  have := congrArg Fin.val h
  simp only [row] at this
  exact Fin.ext (by omega)

/-- The rows of block `t`. -/
def blockRows (t : Fin cfg0.N) : Finset (Fin 50000) := Finset.univ.image (row t)

/-- The rows before block `n`. -/
def rowsBefore (n : ℕ) : Finset (Fin 50000) := Finset.univ.filter fun r => r.val < n * 5000

/-- No row precedes the first block. -/
theorem rowsBefore_zero : rowsBefore 0 = ∅ := by
  ext r; simp [rowsBefore]

/-- Every row precedes the end of the tenth block. -/
theorem rowsBefore_all : rowsBefore 10 = Finset.univ := by
  ext r; simp [rowsBefore]

/-- The rows before a block, by their number. -/
theorem mem_rowsBefore (n : ℕ) (r : Fin 50000) : r ∈ rowsBefore n ↔ r.val < n * 5000 := by
  simp only [rowsBefore, Finset.mem_filter, Finset.mem_univ, true_and]

/-- The rows of a block, by their number. -/
theorem mem_blockRows (t : Fin cfg0.N) (r : Fin 50000) :
    r ∈ blockRows t ↔ t.val * 5000 ≤ r.val ∧ r.val < t.val * 5000 + 5000 := by
  simp only [blockRows, Finset.mem_image, Finset.mem_univ, true_and]
  constructor
  · rintro ⟨l, hl⟩
    have hv : t.val * 5000 + l.val = r.val := congrArg Fin.val hl
    have := l.isLt
    omega
  · intro h
    have hl : r.val - t.val * 5000 < 5000 := by omega
    refine ⟨⟨r.val - t.val * 5000, hl⟩, Fin.ext ?_⟩
    show t.val * 5000 + (r.val - t.val * 5000) = r.val
    omega

/-- The rows before the next block are those before this one and its own. -/
theorem rowsBefore_succ (t : Fin cfg0.N) : rowsBefore (t.val + 1) = rowsBefore t.val ∪ blockRows t := by
  ext r
  rw [Finset.mem_union, mem_rowsBefore, mem_rowsBefore, mem_blockRows]
  omega

/-- A block's rows are none of those before it. -/
theorem rowsBefore_disjoint (t : Fin cfg0.N) : Disjoint (rowsBefore t.val) (blockRows t) := by
  rw [Finset.disjoint_left]
  intro r h h'
  rw [mem_rowsBefore] at h
  rw [mem_blockRows] at h'
  omega

/-- A block's scores are the scores of its rows. -/
theorem gB_row (t : Fin cfg0.N) (l : Fin 5000) :
    gB (iblk m c 1 t) (iblk m c 3 t) l = score (featsA m c) (gateA m c) (row t l) := by
  unfold gB score
  refine Finset.sum_congr rfl fun k _ => ?_
  rw [blk1, blk3]

/-- A block's members are the members among its rows. -/
theorem pB_row (t : Fin cfg0.N) (j : Fin 64) (l : Fin 5000) :
    pB (iblk m c 0 t) j l ↔ inSeg (segA m c) j (row t l) := by
  unfold pB inSeg
  rw [blk0]

/-- The weight of a row of a block is its weight as a row of the array. -/
theorem weight_row (t : Fin cfg0.N) (j : Fin 64) (l : Fin 5000) (M : EReal) :
    weight (gB (iblk m c 1 t) (iblk m c 3 t)) (pB (iblk m c 0 t) j) M l
      = weight (score (featsA m c) (gateA m c)) (inSeg (segA m c) j) M (row t l) := by
  unfold weight
  simp only [gB_row, pB_row]

/-- The largest score in a block, over the rows of the array. -/
theorem top_row (t : Fin cfg0.N) (j : Fin 64) :
    top (gB (iblk m c 1 t) (iblk m c 3 t)) (pB (iblk m c 0 t) j) Finset.univ
      = top (score (featsA m c) (gateA m c)) (inSeg (segA m c) j) (blockRows t) := by
  unfold top blockRows
  rw [Finset.sup_image]
  refine Finset.sup_congr rfl fun l _ => ?_
  simp only [gB_row, pB_row, Function.comp]

/-- The three carried arrays hold the greatest score, the sum of weights and the weighted sums over the rows `R`. -/
def Holds (R : Finset (Fin 50000)) (M S : Vec Ideal S1x64 .f32) (A : Vec Ideal S64x512 .f32) : Prop :=
  ∀ j : Fin 64,
    M (ix2 0 j) = top (score (featsA m c) (gateA m c)) (inSeg (segA m c) j) R
    ∧ S (ix2 0 j) = den (score (featsA m c) (gateA m c)) (inSeg (segA m c) j) R
    ∧ ∀ d : Fin 512, A (ix2 j d)
        = num (score (featsA m c) (gateA m c)) (fun r => featsA m c r d) (inSeg (segA m c) j) R

/-- One grid point moves the carried arrays from the rows before its block to those and the block's. -/
theorem holds_next (t : Fin cfg0.N) (M S : Vec Ideal S1x64 .f32) (A : Vec Ideal S64x512 .f32)
    (h : Holds m c (rowsBefore t.val) M S A) :
    Holds m c (rowsBefore (t.val + 1)) (mNext (iblk m c 0 t) (iblk m c 1 t) (iblk m c 3 t) M)
      (sNext (iblk m c 0 t) (iblk m c 1 t) (iblk m c 3 t) M S)
      (rNext (iblk m c 0 t) (iblk m c 1 t) (iblk m c 3 t) M A) := by
  intro j
  obtain ⟨hM, hS, hA⟩ := h j
  have hd := rowsBefore_disjoint t
  rw [rowsBefore_succ]
  refine ⟨?_, ?_, fun d => ?_⟩
  · rw [mNext_apply, hM, top_row, top_union]
  · rw [sNext_apply, hM, hS, top_row, den_union _ _ hd, ← top_union]
    simp only [weight_row]
    rw [blockRows, Finset.sum_image fun a _ b _ e => row_injective t e]
  · rw [rNext_apply, hM, hA, top_row, num_union _ _ _ hd, ← top_union]
    simp only [weight_row, blk1]
    rw [blockRows, Finset.sum_image fun a _ b _ e => row_injective t e]

/-- The initial values stand for no rows. -/
theorem holds_start : Holds m c (rowsBefore 0) (k0_pay6 (F := Ideal)) (k0_pay7 (F := Ideal)) (k0_pay8 (F := Ideal)) := by
  intro j
  rw [rowsBefore_zero]
  exact ⟨(start_apply 0 j 0).1, (start_apply 0 j 0).2.1, fun d => (start_apply 0 j d).2.2⟩

/-- The fold over the grid points. -/
abbrev sweep (n : ℕ) (h : 0 + n < cfg0.N) := Pipeline.accAt (fun n h => stAt0 m c n h junk0) (stAt0 m c) 0 n h

/-- After each point but the last, the carried arrays hold the sums over the rows so far. -/
theorem sweep_holds : ∀ (n : ℕ) (h : 0 + n < cfg0.N), n < 9 →
    Holds m c (rowsBefore (n + 1)) (sweep m c n h).2.2.1 (sweep m c n h).2.2.2.1 (sweep m c n h).2.2.2.2
  | 0, h, _ => by
    have e := (step_first m c ⟨0, h⟩ junk0 rfl (by simp)).2
    have e' : (sweep m c 0 h).2.2 = _ := e
    rw [e']
    exact holds_next m c ⟨0, h⟩ _ _ _ (holds_start m c)
  | n + 1, h, hn => by
    have ih := sweep_holds n (by omega) (by omega)
    have e := (step_middle m c ⟨0 + (n + 1), h⟩ (sweep m c n (by omega)) (by simp only; omega) (by simp only; omega)).2
    have e' : (sweep m c (n + 1) h).2.2 = _ := e
    rw [e']
    have := holds_next m c ⟨0 + (n + 1), h⟩ _ _ _ (by simpa using ih)
    simpa using this

/-- The block of the first result that a point writes. -/
theorem sweep_classes (n : ℕ) (h : 0 + n < cfg0.N) (l : Fin 5000) (d : Fin 512) :
    (sweep m c n h).1 (ix2 l d) = ∑ k : Fin 512, featsA m c (row ⟨0 + n, h⟩ l) k * fcA m c d k := by
  have hN : 0 + n < 10 := h.trans_eq N_0
  have key : ∀ acc, (stAt0 m c (0 + n) h acc).1 = k0_pay10 (iblk m c 1 ⟨0 + n, h⟩) (iblk m c 2 ⟨0 + n, h⟩) := fun acc => by
    by_cases h0 : (0 + n) % 10 = 0
    · exact (step_first m c ⟨0 + n, h⟩ acc h0 (by simp only; omega)).1
    · by_cases h1 : (0 + n) % 10 = 9
      · exact (step_last m c ⟨0 + n, h⟩ acc h0 h1).1
      · exact (step_middle m c ⟨0 + n, h⟩ acc h0 h1).1
  have e : (sweep m c n h).1 = k0_pay10 (iblk m c 1 ⟨0 + n, h⟩) (iblk m c 2 ⟨0 + n, h⟩) := by
    cases n with
    | zero => exact key junk0
    | succ n => exact key _
  rw [e, classes_apply]
  refine Finset.sum_congr rfl fun k _ => ?_
  rw [blk1, blk2]

/-- The first result: every row times the transposed weights. -/
theorem kernel_classes (r : Fin 50000) (d : Fin 512) :
    G6 m c (ix2 r d) = ∑ k : Fin 512, featsA m c r k * fcA m c d k := by
  have hr := r.isLt
  have hp : pt6Of (ix2 r d) = r.val / 5000 := by
    show 1 * (r.val / 5000 - 0) + 1 * (d.val / 512 - 0) = _
    omega
  have hl : loc6Of (ix2 r d) = ix2 (⟨r.val % 5000, Nat.mod_lt _ (by decide)⟩ : Fin 5000) d := by
    funext a; apply Fin.ext
    match a with
    | ⟨0, _⟩ => rfl
    | ⟨1, _⟩ => show d.val % 512 = d.val; omega
  have hq : 0 + r.val / 5000 < cfg0.N := lt_of_lt_of_eq (by omega) N_0.symm
  have hrow : row ⟨0 + r.val / 5000, hq⟩ (⟨r.val % 5000, Nat.mod_lt _ (by decide)⟩ : Fin 5000) = r := by
    apply Fin.ext
    show (0 + r.val / 5000) * 5000 + r.val % 5000 = r.val
    omega
  unfold G6
  rw [dif_pos (lt_of_lt_of_eq (by rw [hp]; omega) N_0.symm), hl, fold0_congr m c _ _ _ hq hp]
  refine (sweep_classes m c _ hq _ d).trans ?_
  rw [hrow]

/-- After every row, the carried sums give the second result. -/
theorem pred_of_holds (t : Fin cfg0.N) (M S : Vec Ideal S1x64 .f32) (A : Vec Ideal S64x512 .f32)
    (h : Holds m c Finset.univ M S A) (j : Fin 64) (d : Fin 512) :
    k0_pay5 A S (iblk m c 4 t) (iblk m c 5 t) (ix2 j d)
      = pooled (segA m c) (featsA m c) (gateA m c) (poolA m c) (biasA m c) (eps : ℝ) j d := by
  obtain ⟨-, hS, hA⟩ := h j
  rw [pred_apply]
  unfold pooled
  rw [hS, blk5]
  simp only [hA, blk4]

/-- What the last point writes into the second result. -/
theorem sweep_pred (h9 : 0 + 9 < cfg0.N) (j : Fin 64) (d : Fin 512) :
    (sweep m c 9 h9).2.1 (ix2 j d)
      = pooled (segA m c) (featsA m c) (gateA m c) (poolA m c) (biasA m c) (eps : ℝ) j d := by
  have h8 : 0 + 8 < cfg0.N := by omega
  have hh := holds_next m c ⟨0 + 9, h9⟩ _ _ _ (sweep_holds m c 8 h8 (by decide))
  have e := (step_last m c ⟨0 + 9, h9⟩ (sweep m c 8 h8) (by simp) (by simp)).2
  have hs : sweep m c 9 h9 = stAt0 m c (0 + 9) h9 (sweep m c 8 h8) := Pipeline.accAt_succ _ _ 0 8 h9
  rw [hs, e]
  have hall : ((⟨0 + 9, h9⟩ : Fin cfg0.N).val + 1) = 10 := rfl
  rw [hall, rowsBefore_all] at hh
  exact pred_of_holds m c _ _ _ _ hh j d

/-- The second result. -/
theorem kernel_pred (j : Fin 64) (d : Fin 512) :
    G7 m c (ix2 j d) = pooled (segA m c) (featsA m c) (gateA m c) (poolA m c) (biasA m c) (eps : ℝ) j d := by
  rw [G7_last]
  exact sweep_pred m c _ j d

end Cert.Pool
end
-- ==== Proof.Scatter.lean ====
module

public import Idealize.ShloMosaic.Lib.ValueIdx
public import Idealize.ShloMosaic.Lib.Routing.OpsPair
public import Idealize.ShloMosaic.PureOps.Ideal.Laws

/-! The accumulating scatter of rows into a table (`jax.ops.segment_sum`), read at an entry. -/

@[expose] public section

noncomputable section

namespace Cert.Pool

open Idealize.ShloMosaic Idealize.ShloMosaic.Routing Idealize.ShloMosaic.ValueIdx

variable {A B n w : ℕ} (d : ScatterDims (shape2 A B) (shape2 n 1) (shape2 n B))

/-- Entry `(r, c')` of the updates lands at `(j, c)` exactly when row `r`'s index word, read signed, is `j`, and the columns agree. -/
theorem row_lands (huw : d.updateWindowDims = [1]) (hiw : d.insertedWindowDims = [0]) (hsd : d.scatterDimsToOperandDims = [0])
    (hivd : d.indexVectorDim = 1) (idx : IVec (shape2 n 1) w) (r : Fin n) (c' : Fin B) (j : Fin A) (c : Fin B) :
    d.resultIdx? (ix2 r c') idx = some (ix2 j c) ↔ (idx (ix2 r 0)).toInt = (j.val : ℤ) ∧ c' = c := by
  have one : ∀ (l : List (Fin 2)) (i : ℕ) (h : i < l.length) (q : Fin 2), l = [q] → l[i]'h = q := by
    intro l i h q hl
    subst hl
    have hi : i = 0 := by simpa using h
    subst hi
    rfl
  have hm : (0 : Fin 2) ∈ d.scatterDimsToOperandDims := by rw [hsd]; exact List.mem_singleton.2 rfl
  have hkept : d.sKept = [1] := by
    show (shape2 A B).kept d.insertedWindowDims = _
    rw [hiw]; rfl
  have hus : d.uScatter = [0] := by
    show (shape2 n B).kept d.updateWindowDims = _
    rw [huw]; rfl
  have hwin0 : d.window (ix2 r c') 0 = 0 := by
    unfold ScatterDims.window
    rw [dif_neg (by rw [hkept]; exact (by decide : (0 : Fin 2) ∉ [(1 : Fin 2)]))]
  have hwin1 : d.window (ix2 r c') 1 = c'.val := by
    unfold ScatterDims.window
    rw [dif_pos (by rw [hkept]; exact List.mem_singleton.2 rfl), one _ _ _ 1 huw]
  have hsi : d.siIdx (ix2 r c') ⟨d.scatterDimsToOperandDims.idxOf 0, List.idxOf_lt_length_iff.2 hm⟩ = ix2 r 0 := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [one _ _ _ 0 hus]
    | ⟨1, _⟩ =>
      exact congrArg Fin.val (Subsingleton.elim (α := Fin 1) _ _)
  have hstart0 : d.start (ix2 r c') idx 0 = (idx (ix2 r 0)).toInt := by
    unfold ScatterDims.start
    rw [dif_pos hm, hsi]
  have hstart1 : d.start (ix2 r c') idx 1 = 0 := by
    unfold ScatterDims.start
    rw [dif_neg (by rw [hsd]; exact (by decide : (1 : Fin 2) ∉ [(0 : Fin 2)]))]
  rw [Fin.ext_iff, Routing.resultIdx?_ix2, hstart0, hstart1, hwin0, hwin1]
  omega

/-- The scatter's entry `(j, c)`: what the table held there, and the rows whose index word is `j`. -/
theorem scatter_rows (huw : d.updateWindowDims = [1]) (hiw : d.insertedWindowDims = [0]) (hsd : d.scatterDimsToOperandDims = [0])
    (hivd : d.indexVectorDim = 1) (x : FVec Ideal (shape2 A B) .f32) (idx : IVec (shape2 n 1) w)
    (upd : FVec Ideal (shape2 n B) .f32) (j : Fin A) (c : Fin B) :
    Host.scatterAdd d x idx upd (ix2 j c)
      = x (ix2 j c) + ∑ r ∈ Finset.univ.filter (fun r : Fin n => (idx (ix2 r 0)).toInt = (j.val : ℤ)), upd (ix2 r c) := by
  show x (ix2 j c) + ∑ k ∈ Finset.univ.filter (fun k => d.resultIdx? k idx = some (ix2 j c)), upd k = _
  congr 1
  refine Finset.sum_bij' (fun k _ => (k 0 : Fin n)) (fun r _ => ix2 r c) ?_ ?_ ?_ ?_ ?_
  · intro k hk
    obtain ⟨r, c', rfl⟩ : ∃ (r : Fin n) (c' : Fin B), k = ix2 r c' := ⟨_, _, eq_ix2 k⟩
    rw [Finset.mem_filter, row_lands d huw hiw hsd hivd] at hk
    exact Finset.mem_filter.2 ⟨Finset.mem_univ _, hk.2.1⟩
  · intro r hr
    rw [Finset.mem_filter] at hr ⊢
    exact ⟨Finset.mem_univ _, (row_lands d huw hiw hsd hivd idx r c j c).2 ⟨hr.2, rfl⟩⟩
  · intro k hk
    obtain ⟨r, c', rfl⟩ : ∃ (r : Fin n) (c' : Fin B), k = ix2 r c' := ⟨_, _, eq_ix2 k⟩
    rw [Finset.mem_filter, row_lands d huw hiw hsd hivd] at hk
    rw [hk.2.2]
    rfl
  · intro r hr
    rfl
  · intro k hk
    obtain ⟨r, c', rfl⟩ : ∃ (r : Fin n) (c' : Fin B), k = ix2 r c' := ⟨_, _, eq_ix2 k⟩
    rw [Finset.mem_filter, row_lands d huw hiw hsd hivd] at hk
    rw [hk.2.2]
    rfl

end Cert.Pool
end
-- ==== Proof.Ref.lean ====
module

public import proofs.«01_k».proof.Proof.Spec
public import proofs.«01_k».proof.Proof.Scatter
public import proofs.«01_k».proof.Proof.Gen.ReferenceIdeal.Read
public import Idealize.ShloMosaic.Lib.Routing.Ops

/-! What the reference computes, entry by entry, on the extended reals. -/

@[expose] public section

noncomputable section

namespace Cert.Pool

open Cert.ReferenceIdeal Cert.ReferenceIdeal.Gen Cert.ReferenceIdeal.Read
open Idealize.ShloMosaic Idealize.ShloMosaic.TcCoe

/-- A word read signed is a segment's number exactly when it is that number's word. -/
theorem toInt_eq_seg (x : BitVec 32) (j : Fin 64) : x.toInt = (j.val : ℤ) ↔ x = BitVec.ofNat 32 j.val := by
  have h : (BitVec.ofNat 32 j.val).toInt = (j.val : ℤ) := by
    have := j.isLt
    rw [BitVec.toInt_eq_toNat_cond, BitVec.toNat_ofNat]
    rw [Nat.mod_eq_of_lt (by omega), if_pos (by omega)]
  rw [← h, BitVec.toInt_inj]

/-- The scatter of rows at an entry, its indices written as in the lemmas below. -/
theorem scatter_entry {A B n w : ℕ} (d : ScatterDims (Routing.shape2 A B) (Routing.shape2 n 1) (Routing.shape2 n B))
    (huw : d.updateWindowDims = [1]) (hiw : d.insertedWindowDims = [0]) (hsd : d.scatterDimsToOperandDims = [0])
    (hivd : d.indexVectorDim = 1) (x : FVec Ideal (Routing.shape2 A B) .f32) (idx : IVec (Routing.shape2 n 1) w)
    (upd : FVec Ideal (Routing.shape2 n B) .f32) (j : Fin A) (c : Fin B) :
    Host.scatterAdd d x idx upd (ix2 j c)
      = x (ix2 j c) + ∑ r ∈ Finset.univ.filter (fun r : Fin n => (idx (ix2 r 0)).toInt = (j.val : ℤ)), upd (ix2 r c) :=
  scatter_rows d huw hiw hsd hivd x idx upd j c

variable (x0 : (⟨S50000, .i32⟩ : BufTy).Contents (Elt Ideal)) (x1 : (⟨S50000x512, .f32⟩ : BufTy).Contents (Elt Ideal))
  (x2 : (⟨S512x512, .f32⟩ : BufTy).Contents (Elt Ideal)) (x3 : (⟨S512, .f32⟩ : BufTy).Contents (Elt Ideal))
  (x4 : (⟨S1x512, .f32⟩ : BufTy).Contents (Elt Ideal)) (x5 : (⟨S1, .f32⟩ : BufTy).Contents (Elt Ideal))
  (x6 : (⟨S512x512, .f32⟩ : BufTy).Contents (Elt Ideal)) (x7 : (⟨S512, .f32⟩ : BufTy).Contents (Elt Ideal))

/-- The segment number of a row. -/
abbrev segR : Fin 50000 → BitVec 32 := fun r => x0 (ix1 r)
/-- The features. -/
abbrev featsR : Fin 50000 → Fin 512 → EReal := fun r k => x1 (ix2 r k)
/-- The gate's weights. -/
abbrev gateR : Fin 512 → EReal := fun k => x4 (ix2 0 k)

/-- The reference's score: the row's score and the gate's bias. -/
abbrev scoreR : Fin 50000 → EReal := fun r => score (featsR x1) (gateR x4) r + x5 (ix1 0)

/-- The first result. -/
theorem ref_classes (r : Fin 50000) (d : Fin 512) :
    val_main_v4 (F := Ideal) x1 x2 x3 (ix2 r d) = ∑ k : Fin 512, x1 (ix2 r k) * x2 (ix2 d k) + x3 (ix1 d) := by
  unfold val_main_v4 val_main_v3 val_main_v2 val_main_v1 val_main_v0
  pointwise

/-- The reference's score of a row: the product with the gate's weights and the gate's bias. -/
theorem ref_score (r : Fin 50000) : val_main_v9 (F := Ideal) x1 x4 x5 (ix2 r 0) = scoreR x1 x4 x5 r := by
  unfold val_main_v9 val_main_v8 val_main_v7 val_main_v6 val_main_v5
  pointwise
  rfl

/-- The greatest score of each segment. -/
theorem ref_top (j : Fin 64) :
    val_main_v17 (F := Ideal) x0 x1 x4 x5 (ix1 j) = top (scoreR x1 x4 x5) (inSeg (segR x0) j) Finset.univ := by
  unfold val_main_v17 val_main_v16 val_main_cst_0 val_main_call0_v2 val_main_call0_v1 val_main_call0_v0 val_main_cst
    val_main_v15 val_main_v14 val_main_v13 val_main_v12 val_main_v11 val_main_v10
  pointwise
  simp only [select_eq, ref_score, id, constant_apply]
  rw [show Ideal.ofBits .f32 4286578688#32 = (⊥ : EReal) from negInf]
  rfl

/-- A member's index word, wrapped, is its segment's number. -/
theorem wrapped (r : Fin 50000) (j : Fin 64) (h : inSeg (segR x0) j r) :
    val_main_v24 (F := Ideal) x0 (ix2 r 0) = BitVec.ofNat 32 j.val
      ∧ val_main_v36 (F := Ideal) x0 (ix2 r 0) = BitVec.ofNat 32 j.val := by
  have hx : x0 (ix1 r) = BitVec.ofNat 32 j.val := h
  have hlt : (x0 (ix1 r)).toNat < 2 ^ (32 - 1) := by
    have := j.isLt
    rw [hx, BitVec.toNat_ofNat, Nat.mod_eq_of_lt (by omega)]; omega
  constructor
  · unfold val_main_v24 val_main_v23 val_main_v22 val_main_v21 val_main_v20 val_main_v19 val_main_c_1 val_main_c
    pointwise
    exact (Routing.wrap_of_lt _ _ hlt).trans hx
  · unfold val_main_v36 val_main_v35 val_main_v34 val_main_v33 val_main_v32 val_main_v31 val_main_c_4 val_main_c_3
    pointwise
    exact (Routing.wrap_of_lt _ _ hlt).trans hx

/-- A gather of a column of 64 entries by those words reads the entry of the member's segment. -/
theorem gather_seg (y : FVec Ideal S64x1 .f32) (idx : IVec S50000x1 32) (r : Fin 50000) (j : Fin 64)
    (h : idx (ix2 r 0) = BitVec.ofNat 32 j.val) :
    Host.gather gather_S64x1_S50000x1_S50000x1_1_0_n_n_0_1_11 y idx (ix2 r 0) = y (ix2 j 0) :=
  Routing.gather_row gather_S64x1_S50000x1_S50000x1_1_0_n_n_0_1_11 rfl rfl rfl rfl rfl y idx r 0 j h (by decide)

/-- A member's exponential is its weight relative to its segment's greatest score. -/
theorem ref_weight (r : Fin 50000) (j : Fin 64) (h : inSeg (segR x0) j r) :
    val_main_v27 (F := Ideal) x0 x1 x4 x5 (ix2 r 0)
      = weight (scoreR x1 x4 x5) (inSeg (segR x0) j) (top (scoreR x1 x4 x5) (inSeg (segR x0) j) Finset.univ) r := by
  have e25 : val_main_v25 (F := Ideal) x0 x1 x4 x5 (ix2 r 0)
      = top (scoreR x1 x4 x5) (inSeg (segR x0) j) Finset.univ := by
    unfold val_main_v25
    rw [gather_seg _ _ r j (wrapped x0 r j h).1]
    unfold val_main_v18
    pointwise
    exact ref_top x0 x1 x4 x5 j
  unfold val_main_v27 val_main_v26
  pointwise
  rw [e25, ref_score, weight, if_pos h]

/-- The rows the scatters put into segment `j` are its members. -/
theorem landing (idx : IVec S50000x1 32) (h : ∀ r : Fin 50000, idx (ix2 r 0) = x0 (ix1 r)) (j : Fin 64) :
    (Finset.univ.filter fun r : Fin 50000 => (idx (ix2 r 0)).toInt = (j.val : ℤ))
      = Finset.univ.filter (inSeg (segR x0) j) := by
  refine Finset.filter_congr fun r _ => ?_
  rw [h, toInt_eq_seg]
  rfl

/-- The sum of each segment's weights. -/
theorem ref_den (j : Fin 64) :
    val_main_v30 (F := Ideal) x0 x1 x4 x5 (ix2 j 0) = den (scoreR x1 x4 x5) (inSeg (segR x0) j) Finset.univ := by
  have e29 : ∀ r : Fin 50000, val_main_v29 (F := Ideal) x0 (ix2 r 0) = x0 (ix1 r) := fun r => by
    unfold val_main_v29
    pointwise
  have e28 : val_main_v28 (F := Ideal) (ix2 j 0) = (0 : EReal) := by
    unfold val_main_v28 val_main_cst_2
    pointwise
  unfold val_main_v30
  refine (scatter_entry scatter_S64x1_S50000x1_S50000x1_1_0_0_1 rfl rfl rfl rfl _ _ _ j 0).trans ?_
  rw [e28, zero_add, landing x0 _ e29, Finset.sum_filter, den]
  refine Finset.sum_congr rfl fun r _ => ?_
  by_cases h : inSeg (segR x0) j r
  · rw [if_pos h, ref_weight x0 x1 x4 x5 r j h]
  · rw [if_neg h, weight, if_neg h]

/-- A member's row, times its share of its segment's weight. -/
theorem ref_row (r : Fin 50000) (j : Fin 64) (d : Fin 512) (h : inSeg (segR x0) j r) :
    val_main_v42 (F := Ideal) x0 x1 x4 x5 (ix2 r d)
      = x1 (ix2 r d) * Ideal.div
          (weight (scoreR x1 x4 x5) (inSeg (segR x0) j) (top (scoreR x1 x4 x5) (inSeg (segR x0) j) Finset.univ) r)
          (den (scoreR x1 x4 x5) (inSeg (segR x0) j) Finset.univ + ((eps : ℝ) : EReal)) := by
  have e37 : val_main_v37 (F := Ideal) x0 x1 x4 x5 (ix2 r 0) = den (scoreR x1 x4 x5) (inSeg (segR x0) j) Finset.univ := by
    unfold val_main_v37
    rw [gather_seg _ _ r j (wrapped x0 r j h).2]
    exact ref_den x0 x1 x4 x5 j
  unfold val_main_v42 val_main_v41 val_main_v40 val_main_v39 val_main_v38 val_main_cst_5
  pointwise
  rw [e37, ref_weight x0 x1 x4 x5 r j h, eps_bits]

/-- The weighted mean of each segment's rows. -/
theorem ref_mean (j : Fin 64) (d : Fin 512) :
    val_main_v45 (F := Ideal) x0 x1 x4 x5 (ix2 j d)
      = Ideal.div (num (scoreR x1 x4 x5) (fun r => featsR x1 r d) (inSeg (segR x0) j) Finset.univ)
          (den (scoreR x1 x4 x5) (inSeg (segR x0) j) Finset.univ + ((eps : ℝ) : EReal)) := by
  have e44 : ∀ r : Fin 50000, val_main_v44 (F := Ideal) x0 (ix2 r 0) = x0 (ix1 r) := fun r => by
    unfold val_main_v44
    pointwise
  have e43 : val_main_v43 (F := Ideal) (ix2 j d) = (0 : EReal) := by
    unfold val_main_v43 val_main_cst_6
    pointwise
  unfold val_main_v45
  refine (scatter_entry scatter_S64x512_S50000x1_S50000x512_1_0_0_1 rfl rfl rfl rfl _ _ _ j d).trans ?_
  rw [e43, zero_add, landing x0 _ e44, Finset.sum_filter, num_div _ _ _ _ eps_pos]
  refine Finset.sum_congr rfl fun r _ => ?_
  by_cases h : inSeg (segR x0) j r
  · rw [if_pos h, ref_row x0 x1 x4 x5 r j d h]
  · obtain ⟨D, hD, e⟩ := den_eq_coe (scoreR x1 x4 x5) (inSeg (segR x0) j) Finset.univ
    have hpos : D + eps ≠ 0 := by have := eps_pos; linarith
    rw [if_neg h, weight, if_neg h, e, ← EReal.coe_add, Ideal.div_coe hpos, zero_mul, mul_zero]

/-- The gate's bias, a real, drops out: it shifts every score alike. -/
theorem mean_shift (b : ℝ) (hb : x5 (ix1 0) = (b : EReal)) (j : Fin 64) (d : Fin 512) :
    Ideal.div (num (scoreR x1 x4 x5) (fun r => featsR x1 r d) (inSeg (segR x0) j) Finset.univ)
        (den (scoreR x1 x4 x5) (inSeg (segR x0) j) Finset.univ + ((eps : ℝ) : EReal))
      = Ideal.div (num (score (featsR x1) (gateR x4)) (fun r => featsR x1 r d) (inSeg (segR x0) j) Finset.univ)
        (den (score (featsR x1) (gateR x4)) (inSeg (segR x0) j) Finset.univ + ((eps : ℝ) : EReal)) := by
  unfold scoreR num den
  rw [hb]
  simp only [weight_shift]

/-- The second result, the gate's bias being a real. -/
theorem ref_pred (b : ℝ) (hb : x5 (ix1 0) = (b : EReal)) (j : Fin 64) (d : Fin 512) :
    val_main_v50 (F := Ideal) x0 x1 x4 x5 x6 x7 (ix2 j d)
      = pooled (segR x0) (featsR x1) (gateR x4) (fun d k => x6 (ix2 d k)) (fun d => x7 (ix1 d)) ((eps : ℝ) : EReal) j d := by
  unfold val_main_v50 val_main_v49 val_main_v48 val_main_v47 val_main_v46
  pointwise
  simp only [ref_mean, mean_shift x0 x1 x4 x5 b hb]
  rfl

end Cert.Pool
end
-- ==== Proof.Equation.lean ====
module

public import proofs.«01_k».proof.Defs
public import proofs.«01_k».proof.Proof.Fold
public import proofs.«01_k».proof.Proof.Ref
public import proofs.«01_k».proof.Proof.Gen.Pre_biases
public import Idealize.ShloMosaic.Lib.ReduceAll
public import Idealize.ShloMosaic.Lib.Affine

/-! The precondition in plain terms, and the equation of the two programs' results under it. -/

@[expose] public section

noncomputable section

namespace Cert.Pool

open Idealize.ShloMosaic Idealize.ShloMosaic.TcCoe

/-- The pattern of plus infinity. -/
theorem posInf : Ideal.ofBits .f32 0x7F800000#32 = (⊤ : EReal) := by
  simp [Ideal.ofBits, Ideal.ieee]

/-- An array without axes has one index. -/
instance : Subsingleton Cert.Pre_biases.S_.Idx := ⟨fun _ _ => funext fun i => i.elim0⟩

/-- The precondition: the dropped bias of the classes is zero, the dropped bias of the gate is a real number. -/
theorem biases_of_pre (x0 : IVec Cert.Pre_biases.S50000 32) (x1 : FVec Ideal Cert.Pre_biases.S50000x512 .f32)
    (x2 : FVec Ideal Cert.Pre_biases.S512x512 .f32) (x3 : FVec Ideal Cert.Pre_biases.S512 .f32)
    (x4 : FVec Ideal Cert.Pre_biases.S1x512 .f32) (x5 : FVec Ideal Cert.Pre_biases.S1 .f32)
    (x6 : FVec Ideal Cert.Pre_biases.S512x512 .f32) (x7 : FVec Ideal Cert.Pre_biases.S512 .f32)
    (h : Cert.Pre_biases.fn (F := Ideal) x0 x1 x2 x3 x4 x5 x6 x7 = fun _ => 1#1) :
    (∀ i, x3 i = (0 : EReal)) ∧ ∀ i, ∃ b : ℝ, x5 i = (b : EReal) := by
  have h0 := congrFun h (fun i => i.elim0)
  dsimp only [Cert.Pre_biases.fn] at h0
  obtain ⟨ha, hb⟩ := IntOp.andi_eq_one.mp h0
  refine ⟨fun i => ?_, fun i => ?_⟩
  · have e := Host.reduce_andi_all _ _ _ _ _ ha i
    have e' : Ideal.cmp .oeq (x3 i) (Ideal.ofBits .f32 0x00000000#32) = 1#1 := e
    rw [Ideal.ofBits_zero_f32] at e'
    by_contra hne
    simp [Ideal.cmp, hne] at e'
  · have e := Host.reduce_andi_all _ _ _ _ _ hb i
    obtain ⟨e1, e2⟩ := IntOp.andi_eq_one.mp e
    have f1 : Ideal.cmp .ogt (x5 i) (Ideal.ofBits .f32 0xFF800000#32) = 1#1 := e1
    have f2 : Ideal.cmp .olt (x5 i) (Ideal.ofBits .f32 0x7F800000#32) = 1#1 := e2
    rw [negInf] at f1
    rw [posInf] at f2
    have g1 : (⊥ : EReal) < x5 i := by
      by_contra hne
      simp only [Ideal.cmp, hne, decide_false] at f1
      exact absurd f1 (by decide)
    have g2 : x5 i < (⊤ : EReal) := by
      by_contra hne
      simp only [Ideal.cmp, hne, decide_false] at f2
      exact absurd f2 (by decide)
    exact ⟨EReal.toReal (x5 i), (EReal.coe_toReal g2.ne g1.ne').symm⟩

section
open Cert.KernelIdeal Cert.KernelIdeal.Gen Cert.KernelIdeal.Value

variable (m : (ℓ : Loc nD τ sig) → Buf (Elt Ideal) ℓ) (c : Dev nD)

/-- The first results agree where the bias of the classes is zero. -/
theorem classes_eq (h3 : ∀ d : Fin 512, m ((c : Thread nD τ).loc main_arg3) (ix1 d) = (0 : EReal)) :
    Cert.ReferenceIdeal.Read.val_main_v4 (F := Ideal) (m ((c : Thread nD τ).loc main_arg1))
        (m ((c : Thread nD τ).loc main_arg2)) (m ((c : Thread nD τ).loc main_arg3))
      = G6 m c := by
  funext i
  obtain ⟨r, d, rfl⟩ : ∃ (r : Fin 50000) (d : Fin 512), i = ix2 r d := ⟨_, _, eq_ix2 i⟩
  refine (ref_classes _ _ _ r d).trans ?_
  rw [kernel_classes, h3, add_zero]

/-- The second results agree where the bias of the gate is a real number. -/
theorem pred_eq (b : ℝ) (h5 : m ((c : Thread nD τ).loc main_arg5) (ix1 0) = (b : EReal)) :
    Cert.ReferenceIdeal.Read.val_main_v50 (F := Ideal) (m ((c : Thread nD τ).loc main_arg0))
        (m ((c : Thread nD τ).loc main_arg1)) (m ((c : Thread nD τ).loc main_arg4)) (m ((c : Thread nD τ).loc main_arg5))
        (m ((c : Thread nD τ).loc main_arg6)) (m ((c : Thread nD τ).loc main_arg7))
      = G7 m c := by
  funext i
  obtain ⟨j, d, rfl⟩ : ∃ (j : Fin 64) (d : Fin 512), i = ix2 j d := ⟨_, _, eq_ix2 i⟩
  exact (ref_pred _ _ _ _ _ _ b h5 j d).trans (kernel_pred m c j d).symm

end

end Cert.Pool
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_biases
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

/-! The claims, assembled: the three programs run to the end without a fault and leave their arguments as they were;
the idealized kernel is the kernel; and on the extended reals both results of the idealized kernel are the reference's,
where the two biases that the kernel drops are zero (the classes') and a real number (the gate's). -/

@[expose] public section

noncomputable section

namespace Cert.Proof

open Idealize.ShloMosaic Idealize.SL.Sem

/-- The reference runs to the end, leaves its arguments as they were and every counter at zero. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- On the extended reals the idealized kernel's two results are the reference's two results, on every memory that
satisfies the precondition. -/
theorem algebraic : Cert.algebraic_KernelIdeal_ReferenceIdeal_pre_biases := by
  intro m g m' g' hpre hagree
  refine ⟨fun c => Cert.KernelIdeal.Value.G6 m c, fun c => Cert.KernelIdeal.Value.G7 m c,
    Cert.KernelIdeal.Value.run m g, (θ_run _ _ _).mono (fun r h c => ?_) (Cert.ReferenceIdeal.Value.run (F := Ideal) m' g')⟩
  obtain ⟨h3, h5⟩ := Cert.Pool.biases_of_pre _ _ _ _ _ _ _ _ (hpre c)
  obtain ⟨b, hb⟩ := h5 (ix1 0)
  obtain ⟨a0, a1, a2, a3, a4, a5, a6, a7⟩ := hagree c
  refine ⟨(h c).1.trans ?_, (h c).2.1.trans ?_, (h c).2.2⟩
  · refine (Cert.ReferenceIdeal.Read.val_main_v4_eq _ _ _).trans ?_
    rw [a1, a2, a3]
    exact Cert.Pool.classes_eq m c fun d => h3 (ix1 d)
  · refine (Cert.ReferenceIdeal.Read.val_main_v50_eq m' c).trans ?_
    rw [a0, a1, a4, a5, a6, a7]
    exact Cert.Pool.pred_eq m c b hb

/-- Every claim. -/
theorem claim : Cert.Claim :=
  ⟨Cert.Kernel.Gen.facts, Cert.KernelIdeal.Gen.facts, Cert.ReferenceIdeal.Gen.facts, Cert.Pre_biases.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
